-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85_1) = v1 c
          ∧ r.2.mem ((c.tc : Thread Cert.ReferenceIdeal.nD Cert.ReferenceIdeal.τ).loc Cert.ReferenceIdeal.main_v85_2) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2000000x160 : Shape := ⟨2, ![2000000, 160]⟩
abbrev S2000000x5 : Shape := ⟨2, ![2000000, 5]⟩
abbrev S2000000 : Shape := ⟨1, ![2000000]⟩
abbrev S49152 : Shape := ⟨1, ![49152]⟩
abbrev S768x256 : Shape := ⟨2, ![768, 256]⟩
abbrev S768x160 : Shape := ⟨2, ![768, 160]⟩
abbrev S49152x160 : Shape := ⟨2, ![49152, 160]⟩
abbrev S768x1x160 : Shape := ⟨3, ![768, 1, 160]⟩
abbrev S768x256x160 : Shape := ⟨3, ![768, 256, 160]⟩
abbrev S196608x160 : Shape := ⟨2, ![196608, 160]⟩
abbrev S196608 : Shape := ⟨1, ![196608]⟩
abbrev S_ : Shape := ⟨0, ![]⟩
abbrev S196608x1 : Shape := ⟨2, ![196608, 1]⟩
abbrev S49152x1 : Shape := ⟨2, ![49152, 1]⟩
abbrev S160x49152 : Shape := ⟨2, ![160, 49152]⟩
abbrev S49152x5 : Shape := ⟨2, ![49152, 5]⟩
abbrev S5x49152 : Shape := ⟨2, ![5, 49152]⟩
abbrev S1x49152 : Shape := ⟨2, ![1, 49152]⟩
abbrev S160x2048 : Shape := ⟨2, ![160, 2048]⟩
abbrev S5x2048 : Shape := ⟨2, ![5, 2048]⟩
abbrev S1x2048 : Shape := ⟨2, ![1, 2048]⟩
abbrev S32x2048 : Shape := ⟨2, ![32, 2048]⟩
abbrev S2048 : Shape := ⟨1, ![2048]⟩

abbrev nBuf : Space → Nat
  | .hbm => 66
  | .vmem => 20
  | .smem => 0
  | _ => 0

abbrev bufTy : (tb : Table) → Fin (tcTables nBuf tb) → BufTy
  | .hbm, ⟨0, _⟩ => ⟨S2000000x160, .i8⟩
  | .hbm, ⟨1, _⟩ => ⟨S2000000x5, .f32⟩
  | .hbm, ⟨2, _⟩ => ⟨S2000000x5, .f32⟩
  | .hbm, ⟨3, _⟩ => ⟨S2000000, .f32⟩
  | .hbm, ⟨4, _⟩ => ⟨S49152, .i32⟩
  | .hbm, ⟨5, _⟩ => ⟨S768x256, .i32⟩
  | .hbm, ⟨6, _⟩ => ⟨S768x160, .f32⟩
  | .hbm, ⟨7, _⟩ => ⟨S49152x160, .i32⟩
  | .hbm, ⟨8, _⟩ => ⟨S768x1x160, .f32⟩
  | .hbm, ⟨9, _⟩ => ⟨S768x256x160, .f32⟩
  | .hbm, ⟨10, _⟩ => ⟨S196608x160, .f32⟩
  | .hbm, ⟨11, _⟩ => ⟨S196608, .i32⟩
  | .hbm, ⟨12, _⟩ => ⟨S_, .f32⟩
  | .hbm, ⟨13, _⟩ => ⟨S49152x160, .f32⟩
  | .hbm, ⟨14, _⟩ => ⟨S196608x1, .i32⟩
  | .hbm, ⟨15, _⟩ => ⟨S49152x160, .f32⟩
  | .hbm, ⟨16, _⟩ => ⟨S_, .i32⟩
  | .hbm, ⟨17, _⟩ => ⟨S49152, .i32⟩
  | .hbm, ⟨18, _⟩ => ⟨S49152, .i1⟩
  | .hbm, ⟨19, _⟩ => ⟨S_, .i32⟩
  | .hbm, ⟨20, _⟩ => ⟨S49152, .i32⟩
  | .hbm, ⟨21, _⟩ => ⟨S49152, .i32⟩
  | .hbm, ⟨22, _⟩ => ⟨S49152, .i32⟩
  | .hbm, ⟨23, _⟩ => ⟨S49152x1, .i32⟩
  | .hbm, ⟨24, _⟩ => ⟨S49152x160, .i8⟩
  | .hbm, ⟨25, _⟩ => ⟨S160x49152, .i8⟩
  | .hbm, ⟨26, _⟩ => ⟨S_, .i32⟩
  | .hbm, ⟨27, _⟩ => ⟨S49152, .i32⟩
  | .hbm, ⟨28, _⟩ => ⟨S49152, .i1⟩
  | .hbm, ⟨29, _⟩ => ⟨S_, .i32⟩
  | .hbm, ⟨30, _⟩ => ⟨S49152, .i32⟩
  | .hbm, ⟨31, _⟩ => ⟨S49152, .i32⟩
  | .hbm, ⟨32, _⟩ => ⟨S49152, .i32⟩
  | .hbm, ⟨33, _⟩ => ⟨S49152x1, .i32⟩
  | .hbm, ⟨34, _⟩ => ⟨S49152x5, .f32⟩
  | .hbm, ⟨35, _⟩ => ⟨S5x49152, .f32⟩
  | .hbm, ⟨36, _⟩ => ⟨S_, .i32⟩
  | .hbm, ⟨37, _⟩ => ⟨S49152, .i32⟩
  | .hbm, ⟨38, _⟩ => ⟨S49152, .i1⟩
  | .hbm, ⟨39, _⟩ => ⟨S_, .i32⟩
  | .hbm, ⟨40, _⟩ => ⟨S49152, .i32⟩
  | .hbm, ⟨41, _⟩ => ⟨S49152, .i32⟩
  | .hbm, ⟨42, _⟩ => ⟨S49152, .i32⟩
  | .hbm, ⟨43, _⟩ => ⟨S49152x1, .i32⟩
  | .hbm, ⟨44, _⟩ => ⟨S49152x5, .f32⟩
  | .hbm, ⟨45, _⟩ => ⟨S5x49152, .f32⟩
  | .hbm, ⟨46, _⟩ => ⟨S_, .i32⟩
  | .hbm, ⟨47, _⟩ => ⟨S49152, .i32⟩
  | .hbm, ⟨48, _⟩ => ⟨S49152, .i1⟩
  | .hbm, ⟨49, _⟩ => ⟨S_, .i32⟩
  | .hbm, ⟨50, _⟩ => ⟨S49152, .i32⟩
  | .hbm, ⟨51, _⟩ => ⟨S49152, .i32⟩
  | .hbm, ⟨52, _⟩ => ⟨S49152, .i32⟩
  | .hbm, ⟨53, _⟩ => ⟨S49152x1, .i32⟩
  | .hbm, ⟨54, _⟩ => ⟨S49152, .f32⟩
  | .hbm, ⟨55, _⟩ => ⟨S1x49152, .f32⟩
  | .hbm, ⟨56, _⟩ => ⟨S160x49152, .f32⟩
  | .hbm, ⟨57, _⟩ => ⟨S160x49152, .i32⟩
  | .hbm, ⟨58, _⟩ => ⟨S160x49152, .i8⟩
  | .hbm, ⟨59, _⟩ => ⟨S5x49152, .f32⟩
  | .hbm, ⟨60, _⟩ => ⟨S5x49152, .f32⟩
  | .hbm, ⟨61, _⟩ => ⟨S1x49152, .f32⟩
  | .hbm, ⟨62, _⟩ => ⟨S49152x160, .i8⟩
  | .hbm, ⟨63, _⟩ => ⟨S49152x5, .f32⟩
  | .hbm, ⟨64, _⟩ => ⟨S49152x5, .f32⟩
  | .hbm, ⟨65, _⟩ => ⟨S49152, .f32⟩
  | .local _ .vmem, ⟨0, _⟩ => ⟨S160x2048, .i8⟩
  | .local _ .vmem, ⟨1, _⟩ => ⟨S160x2048, .i8⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S1x2048, .f32⟩
  | .local _ .vmem, ⟨7, _⟩ => ⟨S1x2048, .f32⟩
  | .local _ .vmem, ⟨8, _⟩ => ⟨S160x2048, .f32⟩
  | .local _ .vmem, ⟨9, _⟩ => ⟨S160x2048, .f32⟩
  | .local _ .vmem, ⟨10, _⟩ => ⟨S160x2048, .i32⟩
  | .local _ .vmem, ⟨11, _⟩ => ⟨S160x2048, .i32⟩
  | .local _ .vmem, ⟨12, _⟩ => ⟨S160x2048, .i8⟩
  | .local _ .vmem, ⟨13, _⟩ => ⟨S160x2048, .i8⟩
  | .local _ .vmem, ⟨14, _⟩ => ⟨S5x2048, .f32⟩
  | .local _ .vmem, ⟨15, _⟩ => ⟨S5x2048, .f32⟩
  | .local _ .vmem, ⟨16, _⟩ => ⟨S5x2048, .f32⟩
  | .local _ .vmem, ⟨17, _⟩ => ⟨S5x2048, .f32⟩
  | .local _ .vmem, ⟨18, _⟩ => ⟨S1x2048, .f32⟩
  | .local _ .vmem, ⟨19, _⟩ => ⟨S1x2048, .f32⟩
  | _, _ => ⟨S2000000x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S160x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2000000x160 : Shape := ⟨2, ![2000000, 160]⟩
abbrev S2000000x5 : Shape := ⟨2, ![2000000, 5]⟩
abbrev S2000000 : Shape := ⟨1, ![2000000]⟩
abbrev S49152 : Shape := ⟨1, ![49152]⟩
abbrev S768x256 : Shape := ⟨2, ![768, 256]⟩
abbrev S768x160 : Shape := ⟨2, ![768, 160]⟩
abbrev S49152x160 : Shape := ⟨2, ![49152, 160]⟩
abbrev S768x1x160 : Shape := ⟨3, ![768, 1, 160]⟩
abbrev S768x256x160 : Shape := ⟨3, ![768, 256, 160]⟩
abbrev S196608x160 : Shape := ⟨2, ![196608, 160]⟩
abbrev S196608 : Shape := ⟨1, ![196608]⟩
abbrev S_ : Shape := ⟨0, ![]⟩
abbrev S196608x1 : Shape := ⟨2, ![196608, 1]⟩
abbrev S49152x1 : Shape := ⟨2, ![49152, 1]⟩
abbrev S49152x5x32 : Shape := ⟨3, ![49152, 5, 32]⟩
abbrev S49152x5 : Shape := ⟨2, ![49152, 5]⟩
abbrev S49152x5x1 : Shape := ⟨3, ![49152, 5, 1]⟩
abbrev S49152x1x1 : Shape := ⟨3, ![49152, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S2000000x160, .i8⟩
  | .hbm, ⟨1, _⟩ => ⟨S2000000x5, .f32⟩
  | .hbm, ⟨2, _⟩ => ⟨S2000000x5, .f32⟩
  | .hbm, ⟨3, _⟩ => ⟨S2000000, .f32⟩
  | .hbm, ⟨4, _⟩ => ⟨S49152, .i32⟩
  | .hbm, ⟨5, _⟩ => ⟨S768x256, .i32⟩
  | .hbm, ⟨6, _⟩ => ⟨S768x160, .f32⟩
  | .hbm, ⟨7, _⟩ => ⟨S49152x160, .i32⟩
  | .hbm, ⟨8, _⟩ => ⟨S768x1x160, .f32⟩
  | .hbm, ⟨9, _⟩ => ⟨S768x256x160, .f32⟩
  | .hbm, ⟨10, _⟩ => ⟨S196608x160, .f32⟩
  | .hbm, ⟨11, _⟩ => ⟨S196608, .i32⟩
  | .hbm, ⟨12, _⟩ => ⟨S_, .f32⟩
  | .hbm, ⟨13, _⟩ => ⟨S49152x160, .f32⟩
  | .hbm, ⟨14, _⟩ => ⟨S196608x1, .i32⟩
  | .hbm, ⟨15, _⟩ => ⟨S49152x160, .f32⟩
  | .hbm, ⟨16, _⟩ => ⟨S_, .i32⟩
  | .hbm, ⟨17, _⟩ => ⟨S49152, .i32⟩
  | .hbm, ⟨18, _⟩ => ⟨S49152, .i1⟩
  | .hbm, ⟨19, _⟩ => ⟨S_, .i32⟩
  | .hbm, ⟨20, _⟩ => ⟨S49152, .i32⟩
  | .hbm, ⟨21, _⟩ => ⟨S49152, .i32⟩
  | .hbm, ⟨22, _⟩ => ⟨S49152, .i32⟩
  | .hbm, ⟨23, _⟩ => ⟨S49152x1, .i32⟩
  | .hbm, ⟨24, _⟩ => ⟨S49152x160, .i8⟩
  | .hbm, ⟨25, _⟩ => ⟨S49152x5x32, .i8⟩
  | .hbm, ⟨26, _⟩ => ⟨S_, .i32⟩
  | .hbm, ⟨27, _⟩ => ⟨S49152, .i32⟩
  | .hbm, ⟨28, _⟩ => ⟨S49152, .i1⟩
  | .hbm, ⟨29, _⟩ => ⟨S_, .i32⟩
  | .hbm, ⟨30, _⟩ => ⟨S49152, .i32⟩
  | .hbm, ⟨31, _⟩ => ⟨S49152, .i32⟩
  | .hbm, ⟨32, _⟩ => ⟨S49152, .i32⟩
  | .hbm, ⟨33, _⟩ => ⟨S49152x1, .i32⟩
  | .hbm, ⟨34, _⟩ => ⟨S49152x5, .f32⟩
  | .hbm, ⟨35, _⟩ => ⟨S_, .i32⟩
  | .hbm, ⟨36, _⟩ => ⟨S49152, .i32⟩
  | .hbm, ⟨37, _⟩ => ⟨S49152, .i1⟩
  | .hbm, ⟨38, _⟩ => ⟨S_, .i32⟩
  | .hbm, ⟨39, _⟩ => ⟨S49152, .i32⟩
  | .hbm, ⟨40, _⟩ => ⟨S49152, .i32⟩
  | .hbm, ⟨41, _⟩ => ⟨S49152, .i32⟩
  | .hbm, ⟨42, _⟩ => ⟨S49152x1, .i32⟩
  | .hbm, ⟨43, _⟩ => ⟨S49152x5, .f32⟩
  | .hbm, ⟨44, _⟩ => ⟨S_, .i32⟩
  | .hbm, ⟨45, _⟩ => ⟨S49152, .i32⟩
  | .hbm, ⟨46, _⟩ => ⟨S49152, .i1⟩
  | .hbm, ⟨47, _⟩ => ⟨S_, .i32⟩
  | .hbm, ⟨48, _⟩ => ⟨S49152, .i32⟩
  | .hbm, ⟨49, _⟩ => ⟨S49152, .i32⟩
  | .hbm, ⟨50, _⟩ => ⟨S49152, .i32⟩
  | .hbm, ⟨51, _⟩ => ⟨S49152x1, .i32⟩
  | .hbm, ⟨52, _⟩ => ⟨S49152, .f32⟩
  | .hbm, ⟨53, _⟩ => ⟨S49152x5x32, .i32⟩
  | .hbm, ⟨54, _⟩ => ⟨S49152x5x32, .f32⟩
  | .hbm, ⟨55, _⟩ => ⟨S49152x5x1, .f32⟩
  | .hbm, ⟨56, _⟩ => ⟨S49152x5x32, .f32⟩
  | .hbm, ⟨57, _⟩ => ⟨S49152x5x32, .f32⟩
  | .hbm, ⟨58, _⟩ => ⟨S49152x5x1, .f32⟩
  | .hbm, ⟨59, _⟩ => ⟨S49152x5x32, .f32⟩
  | .hbm, ⟨60, _⟩ => ⟨S49152x5x32, .f32⟩
  | .hbm, ⟨61, _⟩ => ⟨S49152x160, .f32⟩
  | .hbm, ⟨62, _⟩ => ⟨S_, .f32⟩
  | .hbm, ⟨63, _⟩ => ⟨S49152, .f32⟩
  | .hbm, ⟨64, _⟩ => ⟨S_, .f32⟩
  | .hbm, ⟨65, _⟩ => ⟨S49152, .f32⟩
  | .hbm, ⟨66, _⟩ => ⟨S49152, .f32⟩
  | .hbm, ⟨67, _⟩ => ⟨S49152, .f32⟩
  | .hbm, ⟨68, _⟩ => ⟨S49152, .f32⟩
  | .hbm, ⟨69, _⟩ => ⟨S_, .f32⟩
  | .hbm, ⟨70, _⟩ => ⟨S49152, .f32⟩
  | .hbm, ⟨71, _⟩ => ⟨S49152, .f32⟩
  | .hbm, ⟨72, _⟩ => ⟨S_, .f32⟩
  | .hbm, ⟨73, _⟩ => ⟨S49152, .f32⟩
  | .hbm, ⟨74, _⟩ => ⟨S49152, .f32⟩
  | .hbm, ⟨75, _⟩ => ⟨S49152x1x1, .f32⟩
  | .hbm, ⟨76, _⟩ => ⟨S49152x5x32, .f32⟩
  | .hbm, ⟨77, _⟩ => ⟨S49152x5x32, .f32⟩
  | .hbm, ⟨78, _⟩ => ⟨S49152x5x32, .f32⟩
  | .hbm, ⟨79, _⟩ => ⟨S49152x5x32, .f32⟩
  | .hbm, ⟨80, _⟩ => ⟨S49152x5x32, .i32⟩
  | .hbm, ⟨81, _⟩ => ⟨S_, .f32⟩
  | .hbm, ⟨82, _⟩ => ⟨S49152x5, .f32⟩
  | .hbm, ⟨83, _⟩ => ⟨S_, .f32⟩
  | .hbm, ⟨84, _⟩ => ⟨S49152x5, .f32⟩
  | .hbm, ⟨85, _⟩ => ⟨S49152x5, .f32⟩
  | .hbm, ⟨86, _⟩ => ⟨S_, .f32⟩
  | .hbm, ⟨87, _⟩ => ⟨S49152x5, .f32⟩
  | .hbm, ⟨88, _⟩ => ⟨S49152x5, .f32⟩
  | .hbm, ⟨89, _⟩ => ⟨S_, .f32⟩
  | .hbm, ⟨90, _⟩ => ⟨S49152x5, .f32⟩
  | .hbm, ⟨91, _⟩ => ⟨S49152x5, .f32⟩
  | .hbm, ⟨92, _⟩ => ⟨S_, .f32⟩
  | .hbm, ⟨93, _⟩ => ⟨S49152x5, .f32⟩
  | .hbm, ⟨94, _⟩ => ⟨S49152x5, .f32⟩
  | .hbm, ⟨95, _⟩ => ⟨S49152x5x1, .f32⟩
  | .hbm, ⟨96, _⟩ => ⟨S49152x5x32, .f32⟩
  | .hbm, ⟨97, _⟩ => ⟨S49152x5x32, .f32⟩
  | .hbm, ⟨98, _⟩ => ⟨S49152x5x1, .f32⟩
  | .hbm, ⟨99, _⟩ => ⟨S49152x5x32, .f32⟩
  | .hbm, ⟨100, _⟩ => ⟨S49152x5x32, .f32⟩
  | .hbm, ⟨101, _⟩ => ⟨S_, .i32⟩
  | .hbm, ⟨102, _⟩ => ⟨S49152x5x32, .i32⟩
  | .hbm, ⟨103, _⟩ => ⟨S49152x5x32, .i32⟩
  | .hbm, ⟨104, _⟩ => ⟨S49152x5x32, .f32⟩
  | .hbm, ⟨105, _⟩ => ⟨S_, .f32⟩
  | .hbm, ⟨106, _⟩ => ⟨S49152x5x32, .f32⟩
  | .hbm, ⟨107, _⟩ => ⟨S49152x5x32, .f32⟩
  | .hbm, ⟨108, _⟩ => ⟨S49152x5x32, .f32⟩
  | .hbm, ⟨109, _⟩ => ⟨S49152x5x32, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S49152x5x32, .f32⟩
  | .hbm, ⟨114, _⟩ => ⟨S49152x5x32, .f32⟩
  | .hbm, ⟨115, _⟩ => ⟨S_, .f32⟩
  | .hbm, ⟨116, _⟩ => ⟨S49152x5x32, .f32⟩
  | .hbm, ⟨117, _⟩ => ⟨S49152x5x32, .f32⟩
  | .hbm, ⟨118, _⟩ => ⟨S49152x5x32, .i32⟩
  | .hbm, ⟨119, _⟩ => ⟨S49152x5x32, .i8⟩
  | .hbm, ⟨120, _⟩ => ⟨S49152x5x32, .i8⟩
  | .hbm, ⟨121, _⟩ => ⟨S49152x5, .f32⟩
  | .hbm, ⟨122, _⟩ => ⟨S49152x5, .f32⟩
  | .hbm, ⟨123, _⟩ => ⟨S49152x160, .i8⟩
  | _, _ => ⟨S2000000x160, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_cst_19 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85_0 : Ref sig .tc := ⟨.hbm, 120, rfl⟩
abbrev main_v85_1 : Ref sig .tc := ⟨.hbm, 121, rfl⟩
abbrev main_v85_2 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== Proof.Row.lean ====
/-
  THE MATHEMATICS OF ONE ROW. The optimizer step treats every selected row of the table on its own. A row has 160
  elements cut into five blocks of 32; each block is stored as 32 codes of eight bits with one scale and one bias. This
  module states, over the extended reals and with no array in sight, what the step makes of one row: the new
  accumulator, the step length, the moved elements of a block, and the block's new bias, scale and codes. Both programs
  are compared with these functions.
-/
module

public import Idealize.ShloMosaic.Lib.Pointwise

@[expose] public section

noncomputable section

namespace Cert.Row

open Idealize.ShloMosaic

/-- The small constant added to the square root and to the range before a division. -/
def eps : EReal := Ideal.ofBits .f32 0x322BCC77#32
/-- The largest code, 255. -/
def top : EReal := Ideal.ofBits .f32 0x437F0000#32

/-- The value of an eight-bit code: the natural number it spells. -/
def codeVal (c : BitVec 8) : EReal := ((c.toNat : ℝ) : EReal)

/-- The value of a random word: the natural number its upper 24 bits spell. -/
def randVal (w : BitVec 32) : EReal := (((w >>> 8).toNat : ℝ) : EReal)

/-- An eight-bit code widened to 32 bits without sign and read as an unsigned number has the code's value. -/
theorem uitofp_code (c : BitVec 8) : FloatOps.uitofp (F := Ideal) .f32 (c.setWidth 32) = codeVal c := by
  show (((c.setWidth 32).toNat : ℝ) : EReal) = _
  rw [codeVal, BitVec.toNat_setWidth, Nat.mod_eq_of_lt (by have := c.isLt; omega)]

/-- Read as a signed number it has the same value: the widened word is below 256, so its sign bit is clear. -/
theorem sitofp_code (c : BitVec 8) : FloatOps.sitofp (F := Ideal) .f32 (c.setWidth 32) = codeVal c := by
  show (((c.setWidth 32).toInt : ℝ) : EReal) = _
  have hc := c.isLt
  have h : (c.setWidth 32).toNat = c.toNat := by
    rw [BitVec.toNat_setWidth, Nat.mod_eq_of_lt (by omega)]
  rw [codeVal, BitVec.toInt_eq_toNat_of_lt (by rw [h]; omega), h, Int.cast_natCast]

/-- A word shifted right by eight on the vector unit and read as a signed number has the value of its upper 24 bits. -/
theorem sitofp_rand (w : BitVec 32) :
    FloatOps.sitofp (F := Ideal) .f32 (IntOp.shrui .vector w 8#32) = randVal w := by
  show (((w >>> (8 : Nat)).toInt : ℝ) : EReal) = _
  have h : (w >>> (8 : Nat)).toNat < 2 ^ 24 := by
    rw [BitVec.toNat_ushiftRight, Nat.shiftRight_eq_div_pow]; have := w.isLt; omega
  rw [randVal, BitVec.toInt_eq_toNat_of_lt (by omega), Int.cast_natCast]

/-- Shifted on the host and read as an unsigned number it has the same value. -/
theorem uitofp_rand (w : BitVec 32) :
    FloatOps.uitofp (F := Ideal) .f32 (IntOp.shrui .host w 8#32) = randVal w := rfl

/-- The place in the row of element `r` of block `b`. -/
def pos (b : Fin 5) (r : Fin 32) : Fin 160 := ⟨b.val * 32 + r.val, by omega⟩

/-- The block an element of a row lies in. -/
def blk (q : Fin 160) : Fin 5 := ⟨q.val / 32, by omega⟩
/-- Its place in that block. -/
def off (q : Fin 160) : Fin 32 := ⟨q.val % 32, by omega⟩

theorem blk_pos (b : Fin 5) (r : Fin 32) : blk (pos b r) = b :=
  Fin.ext (show (b.val * 32 + r.val) / 32 = b.val by omega)
theorem off_pos (b : Fin 5) (r : Fin 32) : off (pos b r) = r :=
  Fin.ext (show (b.val * 32 + r.val) % 32 = r.val by omega)

/-- A sum over the row is the sum, over the five blocks, of the sums over each block. -/
theorem sum_blocks (f : Fin 160 → EReal) : ∑ k, f k = ∑ b : Fin 5, ∑ r : Fin 32, f (pos b r) := by
  rw [← Fintype.sum_prod_type' (f := fun (b : Fin 5) (r : Fin 32) => f (pos b r))]
  refine (Fintype.sum_equiv (finProdFinEquiv (m := 5) (n := 32)) _ _ fun x => ?_).symm
  refine congrArg f (Fin.ext ?_)
  show x.1.val * 32 + x.2.val = x.2.val + 32 * x.1.val
  omega

/-! ## One block -/

/-- One element after the step: the code decoded with the block's scale and bias, less the step times the gradient. -/
def moved (code : BitVec 8) (scale bias step grad : EReal) : EReal := codeVal code * scale + bias - step * grad

/-- The least element of a block: its new bias. -/
def lo (w : Fin 32 → EReal) : EReal := Finset.univ.fold min (Ideal.ofBits .f32 0x7F800000#32) w

/-- The range of a block: its greatest element less its least. -/
def range (w : Fin 32 → EReal) : EReal := Finset.univ.fold max (Ideal.ofBits .f32 0xFF800000#32) w - lo w

/-- The new scale of a block: its range over 255. -/
def scaleOf (w : Fin 32 → EReal) : EReal := Ideal.div (range w) top

/-- The new code of element `r` of a block: the element's distance from the least one in units of the new scale, plus
    the random fraction, rounded down, clipped to [0, 255] and cut to eight bits. -/
def codeOf (w : Fin 32 → EReal) (r : Fin 32) (rand : BitVec 32) : BitVec 8 :=
  (FloatOps.fptosi (F := Ideal) (φ := .f32) 32
    (min top (max 0 (Ideal.liftRound Int.floor
      ((w r - lo w) * Ideal.div top (range w + eps) + randVal rand * Ideal.ofBits .f32 0x33800000#32))))).setWidth 8

end Cert.Row

namespace Cert

/-- The data of one row: its codes, the scale and bias of each block, the accumulator, the gradient and the random words. -/
structure Row where
  code : Fin 160 → BitVec 8
  scale : Fin 5 → EReal
  bias : Fin 5 → EReal
  acc : EReal
  grad : Fin 160 → EReal
  rand : Fin 160 → BitVec 32

namespace Row

open Idealize.ShloMosaic

/-- The new accumulator: the old one plus the mean square of the gradient. -/
def newAcc (R : Row) : EReal := R.acc + Ideal.div (∑ k, R.grad k * R.grad k) (Ideal.ofBits .f32 0x43200000#32)

/-- The step length from an accumulator: the learning rate over the square root plus a small constant. -/
def stepOf (s : EReal) : EReal := Ideal.div (Ideal.ofBits .f32 0x3CA3D70A#32) (Ideal.sqrt s + eps)

/-- The elements of block `b` after the step. -/
def block (R : Row) (b : Fin 5) (r : Fin 32) : EReal :=
  moved (R.code (pos b r)) (R.scale b) (R.bias b) (stepOf R.newAcc) (R.grad (pos b r))

/-- The new bias of block `b`. -/
def newBias (R : Row) (b : Fin 5) : EReal := lo (R.block b)

/-- The new scale of block `b`. -/
def newScale (R : Row) (b : Fin 5) : EReal := scaleOf (R.block b)

/-- The new code of element `r` of block `b`. -/
def newCode (R : Row) (b : Fin 5) (r : Fin 32) : BitVec 8 := codeOf (R.block b) r (R.rand (pos b r))

end Row

end Cert

end
-- ==== Proof.Block.lean ====
/-
  WHAT ONE CALL OF THE KERNEL'S BODY LEAVES. The body works on 2048 rows of the table at once, each row laid down a
  column of its buffers: the codes, gradients and random words as [160, 2048], the scales and biases as [5, 2048], the
  accumulator as [1, 2048]. This module reads the body's stored values at an index: each is the row mathematics of Row.lean
  at the row that column holds.
-/
module

public import proofs.«01_k».proof.Proof.Row
public import proofs.«01_k».proof.Proof.Gen.KernelIdeal.Frame
public import Idealize.ShloMosaic.Lib.Pointwise
public import Idealize.ShloMosaic.Lib.Pipeline.Value

@[expose] public section

noncomputable section

namespace Cert.KernelIdeal.Body

open Cert.KernelIdeal Cert.KernelIdeal.Gen Idealize.ShloMosaic Idealize.SL.Sem

/-- The row held by column `l` of six arrays of `n` columns. -/
def colRow {n : Nat} (C : Vec Ideal ⟨2, ![160, n]⟩ .i8) (S B : Vec Ideal ⟨2, ![5, n]⟩ .f32)
    (A : Vec Ideal ⟨2, ![1, n]⟩ .f32) (G : Vec Ideal ⟨2, ![160, n]⟩ .f32) (W : Vec Ideal ⟨2, ![160, n]⟩ .i32) (l : Fin n) : Row where
  code k := C (ix2 k l)
  scale b := S (ix2 b l)
  bias b := B (ix2 b l)
  acc := A (ix2 0 l)
  grad k := G (ix2 k l)
  rand k := W (ix2 k l)

/-! ## The formula of one block, which the body repeats five times -/

section Formula
variable (s : FVec Ideal S1x2048 .f32) (C : Vec Ideal S32x2048 .i8) (S B : Vec Ideal S1x2048 .f32)
  (G : Vec Ideal S32x2048 .f32) (W : Vec Ideal S32x2048 .i32)

/-- The elements of the block held by column `l` of the values loaded for one block, at accumulators `s`. -/
def elems (l : Fin 2048) (r : Fin 32) : EReal :=
  Row.moved (C (ix2 r l)) (S (ix2 0 l)) (B (ix2 0 l)) (Row.stepOf (s (ix2 0 l))) (G (ix2 r l))

/-- The moved elements at an index. -/
theorem moved_at (r : Fin 32) (l : Fin 2048) : k0_pay4 s C S B G (ix2 r l) = elems s C S B G l r := by
  pointwise [k0_pay4, k0_pay3]
  rw [Row.sitofp_code]
  rfl

/-- The block's bias at a column. -/
theorem bias_at (z : Fin 1) (l : Fin 2048) : k0_pay5 s C S B G (ix2 z l) = Row.lo (elems s C S B G l) := by
  pointwise [k0_pay5]
  simp only [moved_at]
  rfl

/-- The block's scale at a column. -/
theorem scale_at (z : Fin 1) (l : Fin 2048) : k0_pay7 s C S B G (ix2 z l) = Row.scaleOf (elems s C S B G l) := by
  pointwise [k0_pay7, k0_pay6, k0_pay5]
  simp only [moved_at]
  rfl

/-- The block's codes at an index. -/
theorem code_at (r : Fin 32) (l : Fin 2048) :
    k0_pay9 (k0_pay8 s C S B G) W (ix2 r l) = Row.codeOf (elems s C S B G l) r (W (ix2 r l)) := by
  pointwise [k0_pay9, k0_pay8, k0_pay6, k0_pay5]
  simp only [moved_at]
  rw [Row.sitofp_rand]
  rfl

end Formula

/-- The new accumulator at a column: the five blocks' sums of squares, added one after the other to zero, are the row's
    sum of squares. -/
theorem acc_at (G0 G1 G2 G3 G4 : Vec Ideal S32x2048 .f32) (A : Vec Ideal S1x2048 .f32) (z : Fin 1) (l : Fin 2048) :
    k0_pay2 G0 G1 G2 G3 G4 A (ix2 z l)
      = A (ix2 z l) + Ideal.div (∑ b : Fin 5, ∑ r : Fin 32, (![G0, G1, G2, G3, G4] b) (ix2 r l) * (![G0, G1, G2, G3, G4] b) (ix2 r l))
          (Ideal.ofBits .f32 0x43200000#32) := by
  pointwise [k0_pay2]
  simp only [Fin.sum_univ_five, zero_add]
  rfl

/-! ## The rectangles the body loads from and stores to -/

/-- Element `(r, l)` of the 32 rows of block `b` of a [160, 2048] buffer is the buffer's element `(32 b + r, l)`. -/
theorem rows_emb (b : Fin 5) (off : Fin 2 → Nat) (hoff : off = ![b.val * 32, 0])
    (inb : ∀ a, off a + S32x2048.size a ≤ S160x2048.size a) (r : Fin 32) (l : Fin 2048) :
    (Rect.unit (s := S160x2048) off S32x2048.size inb).emb (ix2 r l) = ix2 (Row.pos b r) l := by
  subst hoff
  refine funext fun a => Fin.ext ?_
  match a with
  | ⟨0, _⟩ => show b.val * 32 + 1 * r.val = b.val * 32 + r.val; omega
  | ⟨1, _⟩ => show 0 + 1 * l.val = l.val; omega

/-- Element `(0, l)` of row `b` of a [5, 2048] buffer is the buffer's element `(b, l)`. -/
theorem row_emb (b : Fin 5) (off : Fin 2 → Nat) (hoff : off = ![b.val, 0])
    (inb : ∀ a, off a + S1x2048.size a ≤ S5x2048.size a) (z : Fin 1) (l : Fin 2048) :
    (Rect.unit (s := S5x2048) off S1x2048.size inb).emb (ix2 z l) = ix2 b l := by
  subst hoff
  refine funext fun a => Fin.ext ?_
  match a with
  | ⟨0, _⟩ => show b.val + 1 * z.val = b.val; omega
  | ⟨1, _⟩ => show 0 + 1 * l.val = l.val; omega

/-- Element `(0, l)` of the whole of a [1, 2048] buffer is that element. -/
theorem one_emb (off : Fin 2 → Nat) (hoff : off = ![0, 0])
    (inb : ∀ a, off a + S1x2048.size a ≤ S1x2048.size a) (z : Fin 1) (l : Fin 2048) :
    (Rect.unit (s := S1x2048) off S1x2048.size inb).emb (ix2 z l) = ix2 z l := by
  subst hoff
  refine funext fun a => Fin.ext ?_
  match a with
  | ⟨0, _⟩ => show 0 + 1 * z.val = z.val; omega
  | ⟨1, _⟩ => show 0 + 1 * l.val = l.val; omega

/-! ## What the body leaves in its four output buffers -/

section Targets
variable {n : Nat} (C : Vec Ideal ⟨2, ![160, n]⟩ .i8) (S B : Vec Ideal ⟨2, ![5, n]⟩ .f32)
    (A : Vec Ideal ⟨2, ![1, n]⟩ .f32) (G : Vec Ideal ⟨2, ![160, n]⟩ .f32) (W : Vec Ideal ⟨2, ![160, n]⟩ .i32)

/-- The new codes of `n` rows laid down the columns of six arrays. -/
def codes : Vec Ideal ⟨2, ![160, n]⟩ .i8 := fun y => (colRow C S B A G W (y 1)).newCode (Row.blk (y 0)) (Row.off (y 0))
/-- Their new scales. -/
def scales : Vec Ideal ⟨2, ![5, n]⟩ .f32 := fun y => (colRow C S B A G W (y 1)).newScale (y 0)
/-- Their new biases. -/
def biases : Vec Ideal ⟨2, ![5, n]⟩ .f32 := fun y => (colRow C S B A G W (y 1)).newBias (y 0)
/-- Their new accumulators. -/
def accs : Vec Ideal ⟨2, ![1, n]⟩ .f32 := fun y => (colRow C S B A G W (y 1)).newAcc
end Targets

section Outputs
variable (x0 : Vec Ideal S160x2048 .i8) (x1 x2 : Vec Ideal S5x2048 .f32) (x3 : Vec Ideal S1x2048 .f32)
  (x4 : Vec Ideal S160x2048 .f32) (x5 : Vec Ideal S160x2048 .i32)

/-- The accumulators the body computes from its loads. -/
theorem acc_eq (z : Fin 1) (l : Fin 2048) : k0_pay34 x0 x1 x2 x3 x4 x5 (ix2 z l) = (colRow x0 x1 x2 x3 x4 x5 l).newAcc := by
  unfold k0_pay34
  rw [acc_at, Row.newAcc, Row.sum_blocks]
  refine congr (congrArg _ ?_) (congrArg (Ideal.div · _) (Finset.sum_congr rfl fun b _ => Finset.sum_congr rfl fun r _ => ?_))
  · rw [Subsingleton.elim z 0]
    exact congrArg x3 (one_emb _ rfl _ _ _)
  · have h : (![View.ld x4 r0_0, View.ld x4 r0_1, View.ld x4 r0_2, View.ld x4 r0_3, View.ld x4 r0_4] b) (ix2 r l)
        = x4 (ix2 (Row.pos b r) l) := by
      match b with
      | ⟨0, _⟩ => exact congrArg x4 (rows_emb 0 _ rfl _ _ _)
      | ⟨1, _⟩ => exact congrArg x4 (rows_emb 1 _ rfl _ _ _)
      | ⟨2, _⟩ => exact congrArg x4 (rows_emb 2 _ rfl _ _ _)
      | ⟨3, _⟩ => exact congrArg x4 (rows_emb 3 _ rfl _ _ _)
      | ⟨4, _⟩ => exact congrArg x4 (rows_emb 4 _ rfl _ _ _)
    exact congr (congrArg _ h) h

/-- The elements computed from the loads of block `b` are those of block `b` of the row. -/
theorem elems_eq (b : Fin 5) (o o' : Fin 2 → Nat) (ho : o = ![b.val * 32, 0]) (ho' : o' = ![b.val, 0])
    (inb : ∀ a, o a + S32x2048.size a ≤ S160x2048.size a) (inb' : ∀ a, o' a + S1x2048.size a ≤ S5x2048.size a) (l : Fin 2048) :
    elems (k0_pay34 x0 x1 x2 x3 x4 x5) (View.ld x0 (Rect.unit (s := S160x2048) o S32x2048.size inb))
        (View.ld x1 (Rect.unit (s := S5x2048) o' S1x2048.size inb')) (View.ld x2 (Rect.unit (s := S5x2048) o' S1x2048.size inb'))
        (View.ld x4 (Rect.unit (s := S160x2048) o S32x2048.size inb)) l
      = (colRow x0 x1 x2 x3 x4 x5 l).block b := by
  funext r
  unfold elems
  rw [acc_eq]
  have e := rows_emb b o ho inb r l
  have e' := row_emb b o' ho' inb' 0 l
  show Row.moved (x0 _) (x1 _) (x2 _) _ (x4 _) = _
  rw [show (Rect.unit (s := S160x2048) o S32x2048.size inb).idx (ix2 r l) = _ from e,
    show (Rect.unit (s := S5x2048) o' S1x2048.size inb').idx (ix2 0 l) = _ from e']
  rfl

/-- The biases stored for block `b`, at the element of the buffer they are stored to. -/
theorem bias_piece (b : Fin 5) (o o' : Fin 2 → Nat) (ho : o = ![b.val * 32, 0]) (ho' : o' = ![b.val, 0])
    (inb : ∀ a, o a + S32x2048.size a ≤ S160x2048.size a) (inb' : ∀ a, o' a + S1x2048.size a ≤ S5x2048.size a) (x : S1x2048.Idx) :
    k0_pay5 (k0_pay34 x0 x1 x2 x3 x4 x5) (View.ld x0 (Rect.unit (s := S160x2048) o S32x2048.size inb))
        (View.ld x1 (Rect.unit (s := S5x2048) o' S1x2048.size inb')) (View.ld x2 (Rect.unit (s := S5x2048) o' S1x2048.size inb'))
        (View.ld x4 (Rect.unit (s := S160x2048) o S32x2048.size inb)) x
      = biases x0 x1 x2 x3 x4 x5 ((Rect.unit (s := S5x2048) o' S1x2048.size inb').emb x) := by
  obtain ⟨z, l, rfl⟩ : ∃ (z : Fin 1) (l : Fin 2048), x = ix2 z l := ⟨x 0, x 1, eq_ix2 x⟩
  rw [bias_at, elems_eq (b := b) (ho := ho) (ho' := ho'), row_emb b o' ho']
  rfl

/-- The scales stored for block `b` likewise. -/
theorem scale_piece (b : Fin 5) (o o' : Fin 2 → Nat) (ho : o = ![b.val * 32, 0]) (ho' : o' = ![b.val, 0])
    (inb : ∀ a, o a + S32x2048.size a ≤ S160x2048.size a) (inb' : ∀ a, o' a + S1x2048.size a ≤ S5x2048.size a) (x : S1x2048.Idx) :
    k0_pay7 (k0_pay34 x0 x1 x2 x3 x4 x5) (View.ld x0 (Rect.unit (s := S160x2048) o S32x2048.size inb))
        (View.ld x1 (Rect.unit (s := S5x2048) o' S1x2048.size inb')) (View.ld x2 (Rect.unit (s := S5x2048) o' S1x2048.size inb'))
        (View.ld x4 (Rect.unit (s := S160x2048) o S32x2048.size inb)) x
      = scales x0 x1 x2 x3 x4 x5 ((Rect.unit (s := S5x2048) o' S1x2048.size inb').emb x) := by
  obtain ⟨z, l, rfl⟩ : ∃ (z : Fin 1) (l : Fin 2048), x = ix2 z l := ⟨x 0, x 1, eq_ix2 x⟩
  rw [scale_at, elems_eq (b := b) (ho := ho) (ho' := ho'), row_emb b o' ho']
  rfl

/-- The codes stored for block `b` likewise. -/
theorem code_piece (b : Fin 5) (o o' : Fin 2 → Nat) (ho : o = ![b.val * 32, 0]) (ho' : o' = ![b.val, 0])
    (inb : ∀ a, o a + S32x2048.size a ≤ S160x2048.size a) (inb' : ∀ a, o' a + S1x2048.size a ≤ S5x2048.size a) (x : S32x2048.Idx) :
    k0_pay9 (k0_pay8 (k0_pay34 x0 x1 x2 x3 x4 x5) (View.ld x0 (Rect.unit (s := S160x2048) o S32x2048.size inb))
        (View.ld x1 (Rect.unit (s := S5x2048) o' S1x2048.size inb')) (View.ld x2 (Rect.unit (s := S5x2048) o' S1x2048.size inb'))
        (View.ld x4 (Rect.unit (s := S160x2048) o S32x2048.size inb))) (View.ld x5 (Rect.unit (s := S160x2048) o S32x2048.size inb)) x
      = codes x0 x1 x2 x3 x4 x5 ((Rect.unit (s := S160x2048) o S32x2048.size inb).emb x) := by
  obtain ⟨r, l, rfl⟩ : ∃ (r : Fin 32) (l : Fin 2048), x = ix2 r l := ⟨x 0, x 1, eq_ix2 x⟩
  have e := rows_emb b o ho inb r l
  rw [code_at, elems_eq (b := b) (ho := ho) (ho' := ho'), e]
  show Row.codeOf _ _ (x5 ((Rect.unit (s := S160x2048) o S32x2048.size inb).emb (ix2 r l))) = Row.newCode _ (Row.blk (Row.pos b r)) (Row.off (Row.pos b r))
  rw [e, Row.blk_pos, Row.off_pos]
  rfl

/-- THE CODES' BUFFER after the body holds the new codes of the rows in the columns. -/
theorem out_codes : out0_6 x0 x1 x2 x3 x4 x5 = codes x0 x1 x2 x3 x4 x5 := by
  funext y
  refine View.canon_apply_of_pieces (codes x0 x1 x2 x3 x4 x5) _ ?_ y (cover0_6 _ _ _ _ _ y)
  refine List.forall_mem_cons.2 ⟨code_piece x0 x1 x2 x3 x4 x5 4 _ _ rfl rfl _ inb_S5x2048_S1x2048_4_0, ?_⟩
  refine List.forall_mem_cons.2 ⟨code_piece x0 x1 x2 x3 x4 x5 3 _ _ rfl rfl _ inb_S5x2048_S1x2048_3_0, ?_⟩
  refine List.forall_mem_cons.2 ⟨code_piece x0 x1 x2 x3 x4 x5 2 _ _ rfl rfl _ inb_S5x2048_S1x2048_2_0, ?_⟩
  refine List.forall_mem_cons.2 ⟨code_piece x0 x1 x2 x3 x4 x5 1 _ _ rfl rfl _ inb_S5x2048_S1x2048_1_0, ?_⟩
  exact List.forall_mem_singleton.2 (code_piece x0 x1 x2 x3 x4 x5 0 _ _ rfl rfl _ inb_S5x2048_S1x2048_0_0)

/-- A [5, 2048] buffer stored row by row, every row being that row of an array `D`, holds `D`. -/
theorem five_rows (D : Vec Ideal S5x2048 .f32) (p4 p3 p2 p1 p0 : Vec Ideal S1x2048 .f32)
    (h4 : ∀ x, p4 x = D (r0_10.emb x)) (h3 : ∀ x, p3 x = D (r0_9.emb x)) (h2 : ∀ x, p2 x = D (r0_8.emb x))
    (h1 : ∀ x, p1 x = D (r0_7.emb x)) (h0 : ∀ x, p0 x = D (r0_6.emb x)) :
    View.canon [⟨r0_10, p4⟩, ⟨r0_9, p3⟩, ⟨r0_8, p2⟩, ⟨r0_7, p1⟩, ⟨r0_6, p0⟩] = D := by
  funext y
  refine View.canon_apply_of_pieces D _ ?_ y (cover0_7 _ _ _ _ _ y)
  exact List.forall_mem_cons.2 ⟨h4, List.forall_mem_cons.2 ⟨h3, List.forall_mem_cons.2 ⟨h2, List.forall_mem_cons.2
    ⟨h1, List.forall_mem_singleton.2 h0⟩⟩⟩⟩

/-- THE SCALES' BUFFER after the body holds their new scales. -/
theorem out_scales : out0_7 x0 x1 x2 x3 x4 x5 = scales x0 x1 x2 x3 x4 x5 :=
  five_rows _ _ _ _ _ _
    (scale_piece x0 x1 x2 x3 x4 x5 4 _ _ rfl rfl inb_S160x2048_S32x2048_128_0 inb_S5x2048_S1x2048_4_0)
    (scale_piece x0 x1 x2 x3 x4 x5 3 _ _ rfl rfl inb_S160x2048_S32x2048_96_0 inb_S5x2048_S1x2048_3_0)
    (scale_piece x0 x1 x2 x3 x4 x5 2 _ _ rfl rfl inb_S160x2048_S32x2048_64_0 inb_S5x2048_S1x2048_2_0)
    (scale_piece x0 x1 x2 x3 x4 x5 1 _ _ rfl rfl inb_S160x2048_S32x2048_32_0 inb_S5x2048_S1x2048_1_0)
    (scale_piece x0 x1 x2 x3 x4 x5 0 _ _ rfl rfl inb_S160x2048_S32x2048_0_0 inb_S5x2048_S1x2048_0_0)

/-- THE BIASES' BUFFER after the body holds their new biases. -/
theorem out_biases : out0_8 x0 x1 x2 x3 x4 x5 = biases x0 x1 x2 x3 x4 x5 :=
  five_rows _ _ _ _ _ _
    (bias_piece x0 x1 x2 x3 x4 x5 4 _ _ rfl rfl inb_S160x2048_S32x2048_128_0 inb_S5x2048_S1x2048_4_0)
    (bias_piece x0 x1 x2 x3 x4 x5 3 _ _ rfl rfl inb_S160x2048_S32x2048_96_0 inb_S5x2048_S1x2048_3_0)
    (bias_piece x0 x1 x2 x3 x4 x5 2 _ _ rfl rfl inb_S160x2048_S32x2048_64_0 inb_S5x2048_S1x2048_2_0)
    (bias_piece x0 x1 x2 x3 x4 x5 1 _ _ rfl rfl inb_S160x2048_S32x2048_32_0 inb_S5x2048_S1x2048_1_0)
    (bias_piece x0 x1 x2 x3 x4 x5 0 _ _ rfl rfl inb_S160x2048_S32x2048_0_0 inb_S5x2048_S1x2048_0_0)

/-- THE ACCUMULATORS' BUFFER after the body holds their new accumulators. -/
theorem out_accs : out0_9 x0 x1 x2 x3 x4 x5 = accs x0 x1 x2 x3 x4 x5 := by
  funext y
  refine View.canon_apply_of_pieces (accs x0 x1 x2 x3 x4 x5) _ ?_ y (cover0_9 _ y)
  refine List.forall_mem_singleton.2 fun x => ?_
  obtain ⟨z, l, rfl⟩ : ∃ (z : Fin 1) (l : Fin 2048), x = ix2 z l := ⟨x 0, x 1, eq_ix2 x⟩
  refine (acc_eq x0 x1 x2 x3 x4 x5 z l).trans ?_
  show _ = (colRow x0 x1 x2 x3 x4 x5 ((r0_5.emb (ix2 z l)) 1)).newAcc
  rw [one_emb _ rfl _ z l]
  rfl

end Outputs

end Cert.KernelIdeal.Body

end
-- ==== Proof.Arrays.lean ====
/- WHAT THE FOUR RESULT ARRAYS OF THE LAUNCH HOLD: grid point `t` works on columns `2048 t, …, 2048 t + 2047` of every
   array, and the points together cover all 49152 columns; so each result array is the array of the new values of the
   49152 rows laid down the columns of the six operands. -/
module

public import proofs.«01_k».proof.Proof.Block
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal.Gen

/-- Every window's block at point `t` starts at row 0 and at column block `t`. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] := by decide +kernel

/-- The array column in which point `t`'s blocks have their column `l`. -/
def col (t : Fin cfg0.N) (l : Fin 2048) : Fin 49152 := ⟨t.val * 2048 + l.val, by have := (show t.val < 24 from t.isLt); omega⟩

section Reads
variable (t : Fin cfg0.N) (l : Fin 2048)

/-- Point `t`'s block of the codes' array, at an index. -/
theorem read_0 (X : (⟨S160x49152, .i8⟩ : BufTy).Contents (Elt Ideal)) (q : Fin 160) :
    ((cfg0.win 0).blk t).view.read (Elt Ideal) X (ix2 q l) = X (ix2 q (col t l)) := by
  unfold col; blk_ext [idx t]

/-- Point `t`'s block of the scales' array, at an index. -/
theorem read_1 (X : (⟨S5x49152, .f32⟩ : BufTy).Contents (Elt Ideal)) (q : Fin 5) :
    ((cfg0.win 1).blk t).view.read (Elt Ideal) X (ix2 q l) = X (ix2 q (col t l)) := by
  unfold col; blk_ext [idx t]

/-- Point `t`'s block of the biases' array, at an index. -/
theorem read_2 (X : (⟨S5x49152, .f32⟩ : BufTy).Contents (Elt Ideal)) (q : Fin 5) :
    ((cfg0.win 2).blk t).view.read (Elt Ideal) X (ix2 q l) = X (ix2 q (col t l)) := by
  unfold col; blk_ext [idx t]

/-- Point `t`'s block of the accumulators' array, at an index. -/
theorem read_3 (X : (⟨S1x49152, .f32⟩ : BufTy).Contents (Elt Ideal)) (q : Fin 1) :
    ((cfg0.win 3).blk t).view.read (Elt Ideal) X (ix2 q l) = X (ix2 q (col t l)) := by
  unfold col; blk_ext [idx t]

/-- Point `t`'s block of the gradients' array, at an index. -/
theorem read_4 (X : (⟨S160x49152, .f32⟩ : BufTy).Contents (Elt Ideal)) (q : Fin 160) :
    ((cfg0.win 4).blk t).view.read (Elt Ideal) X (ix2 q l) = X (ix2 q (col t l)) := by
  unfold col; blk_ext [idx t]

/-- Point `t`'s block of the random words' array, at an index. -/
theorem read_5 (X : (⟨S160x49152, .i32⟩ : BufTy).Contents (Elt Ideal)) (q : Fin 160) :
    ((cfg0.win 5).blk t).view.read (Elt Ideal) X (ix2 q l) = X (ix2 q (col t l)) := by
  unfold col; blk_ext [idx t]

/-- Where point `t`'s block of the new codes lies in their array. -/
theorem emb_6 (q : Fin 160) : (win0_6.blk t).view.emb (ix2 q l) = ix2 q (col t l) := by
  unfold col; blk_ext [idx t]
/-- Where point `t`'s block of the new scales lies in their array. -/
theorem emb_7 (q : Fin 5) : (win0_7.blk t).view.emb (ix2 q l) = ix2 q (col t l) := by
  unfold col; blk_ext [idx t]
/-- Where point `t`'s block of the new biases lies in their array. -/
theorem emb_8 (q : Fin 5) : (win0_8.blk t).view.emb (ix2 q l) = ix2 q (col t l) := by
  unfold col; blk_ext [idx t]
/-- Where point `t`'s block of the new accumulators lies in their array. -/
theorem emb_9 (q : Fin 1) : (win0_9.blk t).view.emb (ix2 q l) = ix2 q (col t l) := by
  unfold col; blk_ext [idx t]

end Reads

variable (m : (ℓ : Loc nD τ sig) → Buf (Elt Ideal) ℓ) (c : Dev nD)

/-- The row in column `l` of the six blocks of point `t` is the row in the corresponding column of the arrays. -/
theorem colRow_iblk (t : Fin cfg0.N) (l : Fin 2048) :
    colRow (iblk m c 0 t) (iblk m c 1 t) (iblk m c 2 t) (iblk m c 3 t) (iblk m c 4 t) (iblk m c 5 t) l
      = colRow (V m c main_v14) (V m c main_v22) (V m c main_v30) (V m c main_v38) (V m c main_v39) (V m c main_v40) (col t l) := by
  unfold colRow
  rw [Row.mk.injEq]
  exact ⟨funext fun q => read_0 t l (V m c main_v14) q, funext fun q => read_1 t l (V m c main_v22) q,
    funext fun q => read_2 t l (V m c main_v30) q, read_3 t l (V m c main_v38) 0,
    funext fun q => read_4 t l (V m c main_v39) q, funext fun q => read_5 t l (V m c main_v40) q⟩

/-- THE CODES' ARRAY after the launch. -/
theorem arr_codes : (dats m 0 c).arrAt 6 cfg0.N
    = codes (V m c main_v14) (V m c main_v22) (V m c main_v30) (V m c main_v38) (V m c main_v39) (V m c main_v40) := by
  refine (dats m 0 c).arrAt_eq_of_covers 6 _ (by decide +kernel) fun t hf y => ?_
  blk_simp
  rw [after0_6, out_codes]
  obtain ⟨q, l, rfl⟩ : ∃ (q : Fin 160) (l : Fin 2048), y = ix2 q l := ⟨y 0, y 1, eq_ix2 y⟩
  rw [emb_6]
  exact congrArg (fun R : Row => R.newCode (Row.blk q) (Row.off q)) (colRow_iblk m c t l)

/-- THE SCALES' ARRAY after the launch. -/
theorem arr_scales : (dats m 0 c).arrAt 7 cfg0.N
    = scales (V m c main_v14) (V m c main_v22) (V m c main_v30) (V m c main_v38) (V m c main_v39) (V m c main_v40) := by
  refine (dats m 0 c).arrAt_eq_of_covers 7 _ (by decide +kernel) fun t hf y => ?_
  blk_simp
  rw [after0_7, out_scales]
  obtain ⟨q, l, rfl⟩ : ∃ (q : Fin 5) (l : Fin 2048), y = ix2 q l := ⟨y 0, y 1, eq_ix2 y⟩
  rw [emb_7]
  exact congrArg (fun R : Row => R.newScale q) (colRow_iblk m c t l)

/-- THE BIASES' ARRAY after the launch. -/
theorem arr_biases : (dats m 0 c).arrAt 8 cfg0.N
    = biases (V m c main_v14) (V m c main_v22) (V m c main_v30) (V m c main_v38) (V m c main_v39) (V m c main_v40) := by
  refine (dats m 0 c).arrAt_eq_of_covers 8 _ (by decide +kernel) fun t hf y => ?_
  blk_simp
  rw [after0_8, out_biases]
  obtain ⟨q, l, rfl⟩ : ∃ (q : Fin 5) (l : Fin 2048), y = ix2 q l := ⟨y 0, y 1, eq_ix2 y⟩
  rw [emb_8]
  exact congrArg (fun R : Row => R.newBias q) (colRow_iblk m c t l)

/-- THE ACCUMULATORS' ARRAY after the launch. -/
theorem arr_accs : (dats m 0 c).arrAt 9 cfg0.N
    = accs (V m c main_v14) (V m c main_v22) (V m c main_v30) (V m c main_v38) (V m c main_v39) (V m c main_v40) := by
  refine (dats m 0 c).arrAt_eq_of_covers 9 _ (by decide +kernel) fun t hf y => ?_
  blk_simp
  rw [after0_9, out_accs]
  obtain ⟨q, l, rfl⟩ : ∃ (q : Fin 1) (l : Fin 2048), y = ix2 q l := ⟨y 0, y 1, eq_ix2 y⟩
  rw [emb_9]
  exact congrArg (fun R : Row => R.newAcc) (colRow_iblk m c t l)

end Cert.KernelIdeal.Body
-- ==== Proof.Table.lean ====
/- THE GATHERED ROWS, AND THE STEP ON ALL OF THEM. The 49152 selected rows stand one per row of six arrays; the step's four
   results are the arrays of the rows' new codes, scales, biases and accumulators. -/
module

public import proofs.«01_k».proof.Proof.Row

@[expose] public section

noncomputable section

namespace Cert

open Idealize.ShloMosaic

/-- The gathered rows: their codes, scales, biases, accumulators, gradients and random words, row by row. -/
structure Table where
  code : Vec Ideal ⟨2, ![49152, 160]⟩ .i8
  scale : Vec Ideal ⟨2, ![49152, 5]⟩ .f32
  bias : Vec Ideal ⟨2, ![49152, 5]⟩ .f32
  acc : Vec Ideal ⟨1, ![49152]⟩ .f32
  grad : Vec Ideal ⟨2, ![49152, 160]⟩ .f32
  rand : Vec Ideal ⟨2, ![49152, 160]⟩ .i32

namespace Table

variable (T : Table)

/-- Row `k` of the gathered rows. -/
def row (k : Fin 49152) : Row where
  code q := T.code (ix2 k q)
  scale b := T.scale (ix2 k b)
  bias b := T.bias (ix2 k b)
  acc := T.acc (ix1 k)
  grad q := T.grad (ix2 k q)
  rand q := T.rand (ix2 k q)

/-- The rows' new codes, -/
def newCodes : Vec Ideal ⟨2, ![49152, 160]⟩ .i8 := fun y => (T.row (y 0)).newCode (Row.blk (y 1)) (Row.off (y 1))
/-- their new scales, -/
def newScales : Vec Ideal ⟨2, ![49152, 5]⟩ .f32 := fun y => (T.row (y 0)).newScale (y 1)
/-- their new biases -/
def newBiases : Vec Ideal ⟨2, ![49152, 5]⟩ .f32 := fun y => (T.row (y 0)).newBias (y 1)
/-- and their new accumulators. -/
def newAccs : Vec Ideal ⟨1, ![49152]⟩ .f32 := fun y => (T.row (y 0)).newAcc

end Table

end Cert
-- ==== Proof.Operands.lean ====
/- WHAT THE HOST HANDS TO THE LAUNCH, and what it does with its results. Before the launch the host adds the output
   gradients into the slots of their rows, gathers the table rows named by the row numbers, and transposes everything so
   that a row lies down a column; after the launch it transposes the results back. -/
module

public import proofs.«01_k».proof.Proof.Arrays
public import proofs.«01_k».proof.Proof.Table

@[expose] public section

set_option maxRecDepth 16384

noncomputable section

namespace Cert.KernelIdeal.Body

open Idealize.ShloMosaic Idealize.ShloMosaic.TcCoe Idealize.ShloMosaic.Tactic Idealize.SL.Sem
open Cert.KernelIdeal.Gen

/-- The row numbers as start indices of the gathers, a negative number counting from the table's end. -/
def rowIds (ids : IVec S49152 32) : IVec S49152x1 32 :=
  broadcastInDim S49152x1 ![0] bcast_S49152_S49152x1_0
    (select (cmpi .slt ids (broadcastInDim S49152 ![] bcast_S_S49152 (constantI S_ 32 0#32)))
      (addi ids (broadcastInDim S49152 ![] bcast_S_S49152 (constantI S_ 32 2000000#32))) ids)

/-- The gathered rows' codes, -/
def rowCodes (table : Vec Ideal S2000000x160 .i8) (ids : IVec S49152 32) : Vec Ideal S49152x160 .i8 :=
  Host.gather gather_S2000000x160_S49152x1_S49152x160_1_0_n_n_0_1_1160 table (rowIds ids)
/-- their scales or biases, -/
def rowPars (table : Vec Ideal S2000000x5 .f32) (ids : IVec S49152 32) : Vec Ideal S49152x5 .f32 :=
  Host.gather gather_S2000000x5_S49152x1_S49152x5_1_0_n_n_0_1_15 table (rowIds ids)
/-- their accumulators, -/
def rowAccs (table : Vec Ideal S2000000 .f32) (ids : IVec S49152 32) : Vec Ideal S49152 .f32 :=
  Host.gather gather_S2000000_S49152x1_S49152_n_0_n_n_0_1_1 table (rowIds ids)
/-- and their gradients: each output gradient added into the 256 slots its lookups name. -/
def rowGrads (slots : IVec S768x256 32) (grads : FVec Ideal S768x160 .f32) : FVec Ideal S49152x160 .f32 :=
  Host.scatterAdd scatter_S49152x160_S196608x1_S196608x160_1_0_0_1
    (broadcastInDim S49152x160 ![] bcast_S_S49152x160 (constant S_ .f32 0x00000000#32))
    (broadcastInDim S196608x1 ![0] bcast_S196608_S196608x1_0 (shapeCast S196608 slots shapeCasts_S768x256_S196608))
    (shapeCast S196608x160 (broadcastInDim S768x256x160 ![0, 1, 2] bcast_S768x1x160_S768x256x160_0_1_2
      (broadcastInDim S768x1x160 ![0, 2] bcast_S768x160_S768x1x160_0_2 grads)) shapeCasts_S768x256x160_S196608x160)

variable (m : (ℓ : Loc nD τ sig) → Buf (Elt Ideal) ℓ) (c : Dev nD)

/-- The gathered rows of a run from memory `m`. -/
def gathered : Table where
  code := rowCodes (m ((c.tc : Thread nD τ).loc main_arg0)) (m ((c.tc : Thread nD τ).loc main_arg4))
  scale := rowPars (m ((c.tc : Thread nD τ).loc main_arg1)) (m ((c.tc : Thread nD τ).loc main_arg4))
  bias := rowPars (m ((c.tc : Thread nD τ).loc main_arg2)) (m ((c.tc : Thread nD τ).loc main_arg4))
  acc := rowAccs (m ((c.tc : Thread nD τ).loc main_arg3)) (m ((c.tc : Thread nD τ).loc main_arg4))
  grad := rowGrads (m ((c.tc : Thread nD τ).loc main_arg5)) (m ((c.tc : Thread nD τ).loc main_arg6))
  rand := m ((c.tc : Thread nD τ).loc main_arg7)

/-! Each operand of the launch holds its array of the gathered rows, transposed. -/

/-- The launch's operand of codes is the gathered rows' codes, transposed. -/
theorem V_codes : V m c main_v14 = transpose S160x49152 [1, 0] (gathered m c).code transposes_S49152x160_S160x49152_1_0 := by
  entry_read
  rfl

/-- The launch's operand of scales is the gathered rows' scales, transposed. -/
theorem V_scales : V m c main_v22 = transpose S5x49152 [1, 0] (gathered m c).scale transposes_S49152x5_S5x49152_1_0 := by
  entry_read
  rfl

/-- The launch's operand of biases is the gathered rows' biases, transposed. -/
theorem V_biases : V m c main_v30 = transpose S5x49152 [1, 0] (gathered m c).bias transposes_S49152x5_S5x49152_1_0 := by
  entry_read
  rfl

/-- The launch's operand of accumulators is the gathered rows' accumulators, as one line. -/
theorem V_accs : V m c main_v38 = broadcastInDim S1x49152 ![1] bcast_S49152_S1x49152_1 (gathered m c).acc := by
  entry_read
  rfl

/-- The launch's operand of gradients is the gathered rows' gradients, transposed. -/
theorem V_grads : V m c main_v39 = transpose S160x49152 [1, 0] (gathered m c).grad transposes_S49152x160_S160x49152_1_0 := by
  entry_read
  rfl

/-- The launch's operand of random words is the gathered rows' random words, transposed. -/
theorem V_rands : V m c main_v40 = transpose S160x49152 [1, 0] (gathered m c).rand transposes_S49152x160_S160x49152_1_0 := by
  show StableHlo.after hostOps0 (fun b => m (c, b)) (Proc.devRef .tc main_v40) = _
  after_results_simp
  rfl

/-! ## From columns back to rows -/

section Back
variable (T : Table)

/-- Column `k` of the operands handed to the launch is row `k` of the gathered rows. -/
theorem colRow_operands (k : Fin 49152) :
    colRow (transpose S160x49152 [1, 0] T.code transposes_S49152x160_S160x49152_1_0) (transpose S5x49152 [1, 0] T.scale transposes_S49152x5_S5x49152_1_0)
        (transpose S5x49152 [1, 0] T.bias transposes_S49152x5_S5x49152_1_0) (broadcastInDim S1x49152 ![1] bcast_S49152_S1x49152_1 T.acc)
        (transpose S160x49152 [1, 0] T.grad transposes_S49152x160_S160x49152_1_0) (transpose S160x49152 [1, 0] T.rand transposes_S49152x160_S160x49152_1_0) k
      = T.row k := by
  unfold colRow Table.row
  rw [Row.mk.injEq]
  refine ⟨funext fun q => ?_, funext fun q => ?_, funext fun q => ?_, ?_, funext fun q => ?_, funext fun q => ?_⟩ <;> pointwise

/-- The codes computed from those operands, transposed back, are the rows' new codes. -/
theorem back_codes : transpose S49152x160 [1, 0] (codes (transpose S160x49152 [1, 0] T.code transposes_S49152x160_S160x49152_1_0) (transpose S5x49152 [1, 0] T.scale transposes_S49152x5_S5x49152_1_0)
        (transpose S5x49152 [1, 0] T.bias transposes_S49152x5_S5x49152_1_0) (broadcastInDim S1x49152 ![1] bcast_S49152_S1x49152_1 T.acc)
        (transpose S160x49152 [1, 0] T.grad transposes_S49152x160_S160x49152_1_0) (transpose S160x49152 [1, 0] T.rand transposes_S49152x160_S160x49152_1_0)) transposes_S160x49152_S49152x160_1_0
      = T.newCodes := by
  funext y
  obtain ⟨k, q, rfl⟩ : ∃ (k : Fin 49152) (q : Fin 160), y = ix2 k q := ⟨y 0, y 1, eq_ix2 y⟩
  pointwise
  exact congrArg (fun R : Row => R.newCode (Row.blk q) (Row.off q)) (colRow_operands T k)

/-- The scales computed from those operands, transposed back, are the rows' new scales. -/
theorem back_scales : transpose S49152x5 [1, 0] (scales (transpose S160x49152 [1, 0] T.code transposes_S49152x160_S160x49152_1_0) (transpose S5x49152 [1, 0] T.scale transposes_S49152x5_S5x49152_1_0)
        (transpose S5x49152 [1, 0] T.bias transposes_S49152x5_S5x49152_1_0) (broadcastInDim S1x49152 ![1] bcast_S49152_S1x49152_1 T.acc)
        (transpose S160x49152 [1, 0] T.grad transposes_S49152x160_S160x49152_1_0) (transpose S160x49152 [1, 0] T.rand transposes_S49152x160_S160x49152_1_0)) transposes_S5x49152_S49152x5_1_0
      = T.newScales := by
  funext y
  obtain ⟨k, q, rfl⟩ : ∃ (k : Fin 49152) (q : Fin 5), y = ix2 k q := ⟨y 0, y 1, eq_ix2 y⟩
  pointwise
  exact congrArg (fun R : Row => R.newScale q) (colRow_operands T k)

/-- The biases computed from those operands, transposed back, are the rows' new biases. -/
theorem back_biases : transpose S49152x5 [1, 0] (biases (transpose S160x49152 [1, 0] T.code transposes_S49152x160_S160x49152_1_0) (transpose S5x49152 [1, 0] T.scale transposes_S49152x5_S5x49152_1_0)
        (transpose S5x49152 [1, 0] T.bias transposes_S49152x5_S5x49152_1_0) (broadcastInDim S1x49152 ![1] bcast_S49152_S1x49152_1 T.acc)
        (transpose S160x49152 [1, 0] T.grad transposes_S49152x160_S160x49152_1_0) (transpose S160x49152 [1, 0] T.rand transposes_S49152x160_S160x49152_1_0)) transposes_S5x49152_S49152x5_1_0
      = T.newBiases := by
  funext y
  obtain ⟨k, q, rfl⟩ : ∃ (k : Fin 49152) (q : Fin 5), y = ix2 k q := ⟨y 0, y 1, eq_ix2 y⟩
  pointwise
  exact congrArg (fun R : Row => R.newBias q) (colRow_operands T k)

/-- The accumulators computed from them, flattened, are the rows' new accumulators. -/
theorem back_accs : shapeCast S49152 (accs (transpose S160x49152 [1, 0] T.code transposes_S49152x160_S160x49152_1_0) (transpose S5x49152 [1, 0] T.scale transposes_S49152x5_S5x49152_1_0)
        (transpose S5x49152 [1, 0] T.bias transposes_S49152x5_S5x49152_1_0) (broadcastInDim S1x49152 ![1] bcast_S49152_S1x49152_1 T.acc)
        (transpose S160x49152 [1, 0] T.grad transposes_S49152x160_S160x49152_1_0) (transpose S160x49152 [1, 0] T.rand transposes_S49152x160_S160x49152_1_0)) shapeCasts_S1x49152_S49152
      = T.newAccs := by
  funext y
  obtain ⟨k, rfl⟩ : ∃ k : Fin 49152, y = ix1 k := ⟨y 0, eq_ix1 y⟩
  pointwise
  exact congrArg (fun R : Row => R.newAcc) (colRow_operands T k)

end Back

end Cert.KernelIdeal.Body
-- ==== Proof.Results.lean ====
/- WHAT THE KERNEL'S RUN RETURNS: its four results are the new codes, scales, biases and accumulators of the gathered rows,
   and its arguments end as they began. -/
module

public import proofs.«01_k».proof.Proof.Operands

@[expose] public section

set_option maxRecDepth 16384

noncomputable section

namespace Cert.KernelIdeal.Body

open Idealize.ShloMosaic Idealize.ShloMosaic.TcCoe Idealize.ShloMosaic.Tactic Idealize.SL.Sem
open Cert.KernelIdeal.Gen

variable (m : (ℓ : Loc nD τ sig) → Buf (Elt Ideal) ℓ) (c : Dev nD)

/-- A launch result, as the host lines after the launch find it. -/
theorem found (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) _ w

/-! The host lines after the launch turn its results back into rows. -/

/-- The kernel's result of codes is the gathered rows' new codes. -/
theorem tail_codes : Pipeline.afterTail₀ cfgs (dats m) 0 (V0 m) [hostOps1] c main_v42 = (gathered m c).newCodes := by
  rw [← back_codes, ← V_codes, ← V_scales, ← V_biases, ← V_accs, ← V_grads, ← V_rands, ← arr_codes, ← found]
  unfold Pipeline.afterTail₀
  show StableHlo.after hostOps1 _ (Proc.devRef .tc main_v42) = _
  after_results_simp

/-- The kernel's result of scales is the gathered rows' new scales. -/
theorem tail_scales : Pipeline.afterTail₀ cfgs (dats m) 0 (V0 m) [hostOps1] c main_v43 = (gathered m c).newScales := by
  rw [← back_scales, ← V_codes, ← V_scales, ← V_biases, ← V_accs, ← V_grads, ← V_rands, ← arr_scales, ← found]
  unfold Pipeline.afterTail₀
  show StableHlo.after hostOps1 _ (Proc.devRef .tc main_v43) = _
  after_results_simp

/-- The kernel's result of biases is the gathered rows' new biases. -/
theorem tail_biases : Pipeline.afterTail₀ cfgs (dats m) 0 (V0 m) [hostOps1] c main_v44 = (gathered m c).newBiases := by
  rw [← back_biases, ← V_codes, ← V_scales, ← V_biases, ← V_accs, ← V_grads, ← V_rands, ← arr_biases, ← found]
  unfold Pipeline.afterTail₀
  show StableHlo.after hostOps1 _ (Proc.devRef .tc main_v44) = _
  after_results_simp

/-- The kernel's result of accumulators is the gathered rows' new accumulators. -/
theorem tail_accs : Pipeline.afterTail₀ cfgs (dats m) 0 (V0 m) [hostOps1] c main_v45 = (gathered m c).newAccs := by
  rw [← back_accs, ← V_codes, ← V_scales, ← V_biases, ← V_accs, ← V_grads, ← V_rands, ← arr_accs, ← found]
  unfold Pipeline.afterTail₀
  show StableHlo.after hostOps1 _ (Proc.devRef .tc main_v45) = _
  after_results_simp
  rfl

/-- THE KERNEL'S RUN. -/
theorem run (ρ : Dev nD → PrngReg) : θ_run defs (onTc (τ := τ) (main (F := Ideal))) ⟨m, fun _ => 0, ρ⟩ (fun r => ∀ c : Dev nD,
      r.2.mem ((c.tc : Thread nD τ).loc main_v42) = (gathered m c).newCodes
      ∧ r.2.mem ((c.tc : Thread nD τ).loc main_v43) = (gathered m c).newScales
      ∧ r.2.mem ((c.tc : Thread nD τ).loc main_v44) = (gathered m c).newBiases
      ∧ r.2.mem ((c.tc : Thread nD τ).loc main_v45) = (gathered m c).newAccs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v42 (Pipeline.mem_restRefs_of main_v42 (by decide) (by decide))).trans (tail_codes m c),
      ((h.1 c).2 main_v43 (Pipeline.mem_restRefs_of main_v43 (by decide) (by decide))).trans (tail_scales m c),
      ((h.1 c).2 main_v44 (Pipeline.mem_restRefs_of main_v44 (by decide) (by decide))).trans (tail_biases m c),
      ((h.1 c).2 main_v45 (Pipeline.mem_restRefs_of main_v45 (by decide) (by decide))).trans (tail_accs m c),
      h.2 c⟩)
    (θ_run_and (run_main m ρ) (unchanged m ρ))

end Cert.KernelIdeal.Body
-- ==== Proof.Reference.lean ====
/- WHAT THE REFERENCE COMPUTES. It gathers the same rows and works on all of them at once, as [49152, 5, 32] arrays of
   rows, blocks and elements. This module names its steps and reads each of them at an index: it is the row mathematics
   of Row.lean, so that its results are the new codes, scales, biases and accumulators of the gathered rows. -/
module

public import proofs.«01_k».proof.Proof.Table
public import proofs.«01_k».proof.Proof.Gen.ReferenceIdeal.Run

@[expose] public section

set_option maxRecDepth 16384

noncomputable section

namespace Cert.ReferenceIdeal.Steps

open Cert.ReferenceIdeal Cert.ReferenceIdeal.Gen Idealize.ShloMosaic Idealize.ShloMosaic.TcCoe Idealize.SL.Sem

/-- A number per block, repeated for the block's elements. -/
def perBlock (v : FVec Ideal S49152x5 .f32) : FVec Ideal S49152x5x32 .f32 :=
  broadcastInDim S49152x5x32 ![0, 1, 2] bcast_S49152x5x1_S49152x5x32_0_1_2 (broadcastInDim S49152x5x1 ![0, 1] bcast_S49152x5_S49152x5x1_0_1 v)
/-- A number per row, repeated for the row's elements. -/
def perRow (v : FVec Ideal S49152 .f32) : FVec Ideal S49152x5x32 .f32 :=
  broadcastInDim S49152x5x32 ![0, 1, 2] bcast_S49152x1x1_S49152x5x32_0_1_2 (broadcastInDim S49152x1x1 ![0] bcast_S49152_S49152x1x1_0 v)

variable (T : Table)

/-- The new accumulators. -/
def accs : FVec Ideal S49152 .f32 :=
  addf T.acc (Host.divf (Host.reduceAdd (mulf (F := Ideal) T.grad T.grad) (constant S_ .f32 0x00000000#32) reducesTo_S49152x160_S49152_d1 h_S_)
    (broadcastInDim S49152 ![] bcast_S_S49152 (constant S_ .f32 0x43200000#32)))

/-- The elements after the step. -/
def moved : FVec Ideal S49152x5x32 .f32 :=
  subf (addf (mulf (uitofp .f32 (extui 32 (shapeCast S49152x5x32 T.code shapeCasts_S49152x160_S49152x5x32) natLt_8_32)) (perBlock T.scale)) (perBlock T.bias))
    (mulf (perRow (Host.divf (broadcastInDim S49152 ![] bcast_S_S49152 (constant S_ .f32 0x3CA3D70A#32))
        (addf (Host.sqrt (accs T)) (broadcastInDim S49152 ![] bcast_S_S49152 (constant S_ .f32 0x322BCC77#32)))))
      (shapeCast S49152x5x32 T.grad shapeCasts_S49152x160_S49152x5x32))

/-- The new biases. -/
def biases : FVec Ideal S49152x5 .f32 :=
  Host.reduce FloatOps.minimumf (moved T) (constant S_ .f32 0x7F800000#32) reducesTo_S49152x5x32_S49152x5_d2 h_S_

/-- The blocks' greatest elements. -/
def tops : FVec Ideal S49152x5 .f32 :=
  Host.reduce FloatOps.maximumf (moved T) (constant S_ .f32 0xFF800000#32) reducesTo_S49152x5x32_S49152x5_d2 h_S_

/-- The blocks' ranges. -/
def ranges : FVec Ideal S49152x5 .f32 := subf (tops T) (biases T)

/-- The new scales, from the blocks' ranges. -/
def scalesOf (rng : FVec Ideal S49152x5 .f32) : FVec Ideal S49152x5 .f32 :=
  Host.divf rng (broadcastInDim S49152x5 ![] bcast_S_S49152x5 (constant S_ .f32 0x437F0000#32))

/-- The new scales. -/
def scales : FVec Ideal S49152x5 .f32 := scalesOf (ranges T)

/-- The new codes, block by block, from the moved elements, the blocks' least elements and ranges, and the random words. -/
def blockCodesOf (w : FVec Ideal S49152x5x32 .f32) (lo rng : FVec Ideal S49152x5 .f32) (rand : IVec S49152x160 32) : IVec S49152x5x32 8 :=
  trunci 8 (fptosi 32 (minimumf (broadcastInDim S49152x5x32 ![] bcast_S_S49152x5x32 (constant S_ .f32 0x437F0000#32))
    (maximumf (broadcastInDim S49152x5x32 ![] bcast_S_S49152x5x32 (constant S_ .f32 0x00000000#32))
      (Host.floor (addf
        (mulf (subf w (perBlock lo))
          (perBlock (Host.divf (broadcastInDim S49152x5 ![] bcast_S_S49152x5 (constant S_ .f32 0x437F0000#32))
            (addf rng (broadcastInDim S49152x5 ![] bcast_S_S49152x5 (constant S_ .f32 0x322BCC77#32))))))
        (mulf (uitofp .f32 (Host.shrui (shapeCast S49152x5x32 rand shapeCasts_S49152x160_S49152x5x32)
            (broadcastInDim S49152x5x32 ![] bcast_S_S49152x5x32 (constantI S_ 32 8#32))))
          (broadcastInDim S49152x5x32 ![] bcast_S_S49152x5x32 (constant S_ .f32 0x33800000#32)))))))) natLt_8_32

/-- The new codes, row by row, from those laid out block by block. -/
def flat (x : IVec S49152x5x32 8) : IVec S49152x160 8 := shapeCast S49152x160 x shapeCasts_S49152x5x32_S49152x160

/-- The new codes. -/
def codes : IVec S49152x160 8 := flat (blockCodesOf (moved T) (biases T) (ranges T) T.rand)

/-! ## The steps at an index -/

/-- A difference of two elements is their difference as extended reals. -/
theorem subf_ideal (x y : EReal) : FloatOps.subf (F := Ideal) (φ := .f32) x y = x - y := rfl

/-- The accumulators, -/
theorem accs_at (k : Fin 49152) : accs T (ix1 k) = (T.row k).newAcc := by
  pointwise [accs]
  rfl

/-- the moved elements, -/
theorem moved_at (k : Fin 49152) (b : Fin 5) (r : Fin 32) : moved T (ix3 k b r) = (T.row k).block b r := by
  pointwise [moved, perBlock, perRow]
  rw [accs_at, Row.uitofp_code]
  rfl

/-- the biases, -/
theorem biases_at (k : Fin 49152) (b : Fin 5) : biases T (ix2 k b) = (T.row k).newBias b := by
  pointwise [biases]
  simp only [moved_at]
  rfl

/-- the greatest elements, -/
theorem tops_at (k : Fin 49152) (b : Fin 5) :
    tops T (ix2 k b) = Finset.univ.fold max (Ideal.ofBits .f32 0xFF800000#32) ((T.row k).block b) := by
  pointwise [tops]
  simp only [moved_at]

/-- the ranges, -/
theorem ranges_at (k : Fin 49152) (b : Fin 5) : ranges T (ix2 k b) = Row.range ((T.row k).block b) := by
  unfold ranges Row.range
  rw [subf_apply, tops_at, biases_at]
  exact subf_ideal _ _

/-- the scales, -/
theorem scalesOf_at (rng : FVec Ideal S49152x5 .f32) (k : Fin 49152) (b : Fin 5) :
    scalesOf rng (ix2 k b) = Ideal.div (rng (ix2 k b)) Row.top := by
  pointwise [scalesOf]
  rfl

/-- The new scales, row by row. -/
theorem scales_at (k : Fin 49152) (b : Fin 5) : scales T (ix2 k b) = (T.row k).newScale b := by
  unfold scales Row.newScale Row.scaleOf
  rw [scalesOf_at, ranges_at]

/-- and the codes. -/
theorem blockCodesOf_at (w : FVec Ideal S49152x5x32 .f32) (lo rng : FVec Ideal S49152x5 .f32) (rand : IVec S49152x160 32)
    (k : Fin 49152) (b : Fin 5) (r : Fin 32) :
    blockCodesOf w lo rng rand (ix3 k b r)
      = (FloatOps.fptosi (F := Ideal) (φ := .f32) 32
          (min Row.top (max 0 (Ideal.liftRound Int.floor
            ((w (ix3 k b r) - lo (ix2 k b)) * Ideal.div Row.top (rng (ix2 k b) + Row.eps)
              + Row.randVal (rand (ix2 k (Row.pos b r))) * Ideal.ofBits .f32 0x33800000#32))))).setWidth 8 := by
  pointwise [blockCodesOf, perBlock]
  rw [Row.uitofp_rand]
  rfl

/-- An element of the flattened array is the element of its block at its offset. -/
theorem flat_at (x : IVec S49152x5x32 8) (k : Fin 49152) (q : Fin 160) : flat x (ix2 k q) = x (ix3 k (Row.blk q) (Row.off q)) := by
  pointwise [flat]
  rfl

/-- The new codes, row by row. -/
theorem codes_at (k : Fin 49152) (q : Fin 160) : codes T (ix2 k q) = (T.row k).newCode (Row.blk q) (Row.off q) := by
  unfold codes Row.newCode Row.codeOf
  rw [flat_at, blockCodesOf_at, moved_at, biases_at, ranges_at]
  rfl

/-! ## The results -/

/-- The computed codes are the rows' new codes. -/
theorem codes_eq : codes T = T.newCodes := by
  funext y
  obtain ⟨k, q, rfl⟩ : ∃ (k : Fin 49152) (q : Fin 160), y = ix2 k q := ⟨y 0, y 1, eq_ix2 y⟩
  exact codes_at T k q

/-- The computed scales are the rows' new scales. -/
theorem scales_eq : scales T = T.newScales := by
  funext y
  obtain ⟨k, q, rfl⟩ : ∃ (k : Fin 49152) (q : Fin 5), y = ix2 k q := ⟨y 0, y 1, eq_ix2 y⟩
  exact scales_at T k q

/-- The computed biases are the rows' new biases. -/
theorem biases_eq : biases T = T.newBiases := by
  funext y
  obtain ⟨k, q, rfl⟩ : ∃ (k : Fin 49152) (q : Fin 5), y = ix2 k q := ⟨y 0, y 1, eq_ix2 y⟩
  exact biases_at T k q

/-- The computed accumulators are the rows' new accumulators. -/
theorem accs_eq : accs T = T.newAccs := by
  funext y
  obtain ⟨k, rfl⟩ : ∃ k : Fin 49152, y = ix1 k := ⟨y 0, eq_ix1 y⟩
  exact accs_at T k

/-- The row numbers as start indices of the gathers, a negative number counting from the table's end. -/
def rowIds (ids : IVec S49152 32) : IVec S49152x1 32 :=
  broadcastInDim S49152x1 ![0] bcast_S49152_S49152x1_0
    (select (cmpi .slt ids (broadcastInDim S49152 ![] bcast_S_S49152 (constantI S_ 32 0#32)))
      (addi ids (broadcastInDim S49152 ![] bcast_S_S49152 (constantI S_ 32 2000000#32))) ids)

variable (m : (ℓ : Loc nD τ sig) → Buf (Elt Ideal) ℓ) (c : Dev nD)

/-- The gathered rows of a run from memory `m`. -/
def gathered : Table where
  code := Host.gather gather_S2000000x160_S49152x1_S49152x160_1_0_n_n_0_1_1160 (m ((c.tc : Thread nD τ).loc main_arg0))
    (rowIds (m ((c.tc : Thread nD τ).loc main_arg4)))
  scale := Host.gather gather_S2000000x5_S49152x1_S49152x5_1_0_n_n_0_1_15 (m ((c.tc : Thread nD τ).loc main_arg1))
    (rowIds (m ((c.tc : Thread nD τ).loc main_arg4)))
  bias := Host.gather gather_S2000000x5_S49152x1_S49152x5_1_0_n_n_0_1_15 (m ((c.tc : Thread nD τ).loc main_arg2))
    (rowIds (m ((c.tc : Thread nD τ).loc main_arg4)))
  acc := Host.gather gather_S2000000_S49152x1_S49152_n_0_n_n_0_1_1 (m ((c.tc : Thread nD τ).loc main_arg3))
    (rowIds (m ((c.tc : Thread nD τ).loc main_arg4)))
  grad := Host.scatterAdd scatter_S49152x160_S196608x1_S196608x160_1_0_0_1
    (broadcastInDim S49152x160 ![] bcast_S_S49152x160 (constant (F := Ideal) S_ .f32 0x00000000#32))
    (broadcastInDim S196608x1 ![0] bcast_S196608_S196608x1_0 (shapeCast S196608 (m ((c.tc : Thread nD τ).loc main_arg5)) shapeCasts_S768x256_S196608))
    (shapeCast S196608x160 (broadcastInDim S768x256x160 ![0, 1, 2] bcast_S768x1x160_S768x256x160_0_1_2
      (broadcastInDim S768x1x160 ![0, 2] bcast_S768x160_S768x1x160_0_2 (m ((c.tc : Thread nD τ).loc main_arg6)))) shapeCasts_S768x256x160_S196608x160)
  rand := m ((c.tc : Thread nD τ).loc main_arg7)

/-- The reference's result of codes is the gathered rows' new codes. -/
theorem res_codes : Value.res_out0 m c = (gathered m c).newCodes := by
  rw [← codes_eq]
  unfold Value.res_out0 Value.res_main_v86 codes flat blockCodesOf ranges tops biases moved accs perBlock perRow
  rw [id_eq]
  rfl

/-- The reference's result of scales is the gathered rows' new scales. -/
theorem res_scales : Value.res_out1 m c = (gathered m c).newScales := by
  rw [← scales_eq]
  unfold Value.res_out1 Value.res_main_v85_1 scales scalesOf ranges tops biases moved accs perBlock perRow
  rw [id_eq]
  rfl

/-- The reference's result of biases is the gathered rows' new biases. -/
theorem res_biases : Value.res_out2 m c = (gathered m c).newBiases := by
  rw [← biases_eq]
  unfold Value.res_out2 Value.res_main_v85_2 biases moved accs perBlock perRow
  rw [id_eq]
  rfl

/-- THE REFERENCE'S RUN. -/
theorem run (ρ : Dev nD → PrngReg) : θ_run defs (onTc (τ := τ) (main (F := Ideal))) ⟨m, fun _ => 0, ρ⟩ (fun r => ∀ c : Dev nD,
      r.2.mem ((c.tc : Thread nD τ).loc main_v86) = (gathered m c).newCodes
      ∧ r.2.mem ((c.tc : Thread nD τ).loc main_v85_1) = (gathered m c).newScales
      ∧ r.2.mem ((c.tc : Thread nD τ).loc main_v85_2) = (gathered m c).newBiases
      ∧ r.2.mem ((c.tc : Thread nD τ).loc main_v48) = (gathered m c).newAccs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).1.trans (res_codes m c), (h c).2.1.trans (res_scales m c), (h c).2.2.1.trans (res_biases m c),
      (h c).2.2.2.1.trans (accs_eq (gathered m c)), (h c).2.2.2.2⟩)
    (Value.run (F := Ideal) m ρ)

end Cert.ReferenceIdeal.Steps
-- ==== Proof.Equation.lean ====
/- THE TWO PROGRAMS GATHER THE SAME ROWS. From memories that agree on the arguments, the kernel's host lines and the
   reference select the same rows of the table and add up the same gradients; the results of both runs are the step on
   these rows, hence equal. -/
module

public import proofs.«01_k».proof.Proof.Results
public import proofs.«01_k».proof.Proof.Reference

@[expose] public section

set_option maxRecDepth 16384

noncomputable section

namespace Cert.Equation

open Idealize.ShloMosaic Idealize.SL.Sem

/-- Agreeing arguments give the same gathered rows. -/
theorem gathered_eq
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)) :
    ReferenceIdeal.Steps.gathered m' c = KernelIdeal.Body.gathered m c := by
  obtain ⟨h0, h1, h2, h3, h4, h5, h6, h7⟩ := h
  unfold ReferenceIdeal.Steps.gathered KernelIdeal.Body.gathered
  rw [h0, h1, h2, h3, h4, h5, h6, h7]
  rfl

end Cert.Equation
-- ==== Proof.lean ====
/- THE CERTIFICATE'S CLAIM, assembled. The frame claims are the runs' argument clauses and counters; the kernel of the
   algebraic claim is the kernel of the frame claim, unchanged; and the algebraic claim holds because both runs return the
   step on the same gathered rows (Equation.lean). -/
module

public import proofs.«01_k».proof.Defs
public import proofs.«01_k».proof.Proof.Gen.Kernel.Frame
public import proofs.«01_k».proof.Proof.Equation
public import Idealize.ShloMosaic.Adequacy
public import Idealize.ShloMosaic.Init

@[expose] public section

noncomputable section

namespace Cert.Proof

open Idealize.ShloMosaic Idealize.SL.Sem

/-- The reference's frame: its run leaves the arguments as they were, and it has no semaphores. -/
theorem frame_reference : @Cert.quiescent_ReferenceIdeal Cert.ReferenceIdeal.Gen.facts := fun m ρ _ =>
  (θ_run Cert.ReferenceIdeal.defs _ _).mono
    (fun r h => ⟨fun c => (h c).2.2.2.2, sem_eq_zero_of_no_sems (by decide) r.2⟩)
    (Cert.ReferenceIdeal.Steps.run m ρ)

/-- The four results of the kernel are the four results of the reference. -/
theorem algebraic : @Cert.algebraic_KernelIdeal_ReferenceIdeal Cert.KernelIdeal.Gen.facts Cert.ReferenceIdeal.Gen.facts :=
  fun m ρ m' ρ' _ hargs =>
    ⟨fun c => (Cert.KernelIdeal.Body.gathered m c).newCodes, fun c => (Cert.KernelIdeal.Body.gathered m c).newScales,
      fun c => (Cert.KernelIdeal.Body.gathered m c).newBiases, fun c => (Cert.KernelIdeal.Body.gathered m c).newAccs,
      Cert.KernelIdeal.Body.run m ρ,
      (θ_run Cert.ReferenceIdeal.defs _ _).mono
        (fun _ h c => by
          have e := Cert.Equation.gathered_eq m m' c (hargs c)
          exact ⟨(h c).1.trans (congrArg Table.newCodes e), (h c).2.1.trans (congrArg Table.newScales e),
            (h c).2.2.1.trans (congrArg Table.newBiases e), (h c).2.2.2.1.trans (congrArg Table.newAccs e), (h c).2.2.2.2⟩)
        (Cert.ReferenceIdeal.Steps.run m' ρ')⟩

/-- The five claims together. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
